-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8192x64 : Shape := ⟨3, ![64, 8192, 64]⟩
abbrev S64x64x8192 : Shape := ⟨3, ![64, 64, 8192]⟩
abbrev S_ : Shape := ⟨0, ![]⟩
abbrev S256x256 : Shape := ⟨2, ![256, 256]⟩
abbrev S8x64x4096 : Shape := ⟨3, ![8, 64, 4096]⟩
abbrev S64x8 : Shape := ⟨2, ![64, 8]⟩
abbrev S64x1 : Shape := ⟨2, ![64, 1]⟩
abbrev S1x256 : Shape := ⟨2, ![1, 256]⟩
abbrev S1x64x4096 : Shape := ⟨3, ![1, 64, 4096]⟩
abbrev S64x4096 : Shape := ⟨2, ![64, 4096]⟩
abbrev S64x256 : Shape := ⟨2, ![64, 256]⟩
abbrev S1x64x256 : Shape := ⟨3, ![1, 64, 256]⟩

abbrev nBuf : Space → Nat
  | .hbm => 15
  | .vmem => 7
  | .smem => 0
  | _ => 0

abbrev bufTy : (tb : Table) → Fin (tcTables nBuf tb) → BufTy
  | .hbm, ⟨0, _⟩ => ⟨S64x8192x64, .f32⟩
  | .hbm, ⟨1, _⟩ => ⟨S64x64x8192, .f32⟩
  | .hbm, ⟨2, _⟩ => ⟨S_, .bf16⟩
  | .hbm, ⟨3, _⟩ => ⟨S256x256, .bf16⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .bf16⟩
  | .hbm, ⟨11, _⟩ => ⟨S256x256, .bf16⟩
  | .hbm, ⟨12, _⟩ => ⟨S256x256, .bf16⟩
  | .hbm, ⟨13, _⟩ => ⟨S64x64x8192, .f32⟩
  | .hbm, ⟨14, _⟩ => ⟨S64x8192x64, .f32⟩
  | .local _ .vmem, ⟨0, _⟩ => ⟨S8x64x4096, .f32⟩
  | .local _ .vmem, ⟨1, _⟩ => ⟨S8x64x4096, .f32⟩
  | .local _ .vmem, ⟨2, _⟩ => ⟨S256x256, .bf16⟩
  | .local _ .vmem, ⟨3, _⟩ => ⟨S8x64x4096, .f32⟩
  | .local _ .vmem, ⟨4, _⟩ => ⟨S8x64x4096, .f32⟩
  | .local _ .vmem, ⟨5, _⟩ => ⟨S64x8, .f32⟩
  | .local _ .vmem, ⟨6, _⟩ => ⟨S64x8, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S64x8192x64 : Shape := ⟨3, ![64, 8192, 64]⟩
abbrev S8192 : Shape := ⟨1, ![8192]⟩
abbrev S_ : Shape := ⟨0, ![]⟩
abbrev S8192x1 : Shape := ⟨2, ![8192, 1]⟩
abbrev S1x8192x1 : Shape := ⟨3, ![1, 8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x8192x64, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S64x8192x64, .f32⟩
  | .hbm, ⟨9, _⟩ => ⟨S1x8192x1, .f32⟩
  | .hbm, ⟨10, _⟩ => ⟨S64x8192x64, .f32⟩
  | .hbm, ⟨11, _⟩ => ⟨S64x8192x64, .f32⟩
  | .hbm, ⟨12, _⟩ => ⟨S64x8192x64, .f32⟩
  | .hbm, ⟨13, _⟩ => ⟨S64x8192x64, .f32⟩
  | .hbm, ⟨14, _⟩ => ⟨S_, .f32⟩
  | .hbm, ⟨15, _⟩ => ⟨S_, .f32⟩
  | .hbm, ⟨16, _⟩ => ⟨S64x8192x64, .f32⟩
  | .hbm, ⟨17, _⟩ => ⟨S1x8192x1, .f32⟩
  | .hbm, ⟨18, _⟩ => ⟨S64x8192x64, .f32⟩
  | .hbm, ⟨19, _⟩ => ⟨S64x8192x64, .f32⟩
  | .hbm, ⟨20, _⟩ => ⟨S_, .f32⟩
  | .hbm, ⟨21, _⟩ => ⟨S64x8192x64, .f32⟩
  | .hbm, ⟨22, _⟩ => ⟨S64x8192x64, .f32⟩
  | .hbm, ⟨23, _⟩ => ⟨S64x8192x64, .f32⟩
  | .hbm, ⟨24, _⟩ => ⟨S64x8192x64, .f32⟩
  | .hbm, ⟨25, _⟩ => ⟨S64x8192x64, .f32⟩
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call1_call0_cst : Ref sig .tc := ⟨.hbm, 14, rfl⟩
abbrev main_call1_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Step.lean ====
/-
  One block of the kernel, written once for every channel group and every chunk.

  The kernel's body treats a block of eight batch entries ("groups" here) of 64 channels by 4096 time
  steps. It cuts the time axis in sixteen chunks of 256 columns and visits the 128 pairs (chunk, group),
  chunk after chunk. Per pair it computes the running sum that enters each column by one product with the
  strictly upper triangular matrix of ones, the deviation from the running mean, the running sum of the
  squared deviations by a second product, and the normalised columns. Two columns of carried sums per
  group go from one chunk to the next.

  The definitions below name these values with the group and the chunk as parameters. They are over any
  float values: nothing here uses what the arithmetic means.
-/
module

public import proofs.«01_k».proof.Proof.Gen.KernelIdeal.Frame
public import Idealize.ShloMosaic.Lib.Pipeline.Value

@[expose] public section

noncomputable section

namespace Cert.RevIn

open Idealize.ShloMosaic Idealize.ShloMosaic.TcCoe
open Cert.KernelIdeal Cert.KernelIdeal.Gen

variable {F : FTy → Type} [FloatOps F]

/-! ## Where the loads and stores lie -/

/-- Group `g`'s rows lie inside the block. -/
theorem inbRows (g : ℕ) :
    ∀ a, (![g % 8, 0, 0] : Fin 3 → ℕ) a + S1x64x4096.size a ≤ S8x64x4096.size a := by
  intro a
  have := Nat.mod_lt g (show 0 < 8 by decide)
  fin_cases a <;> simp <;> omega

/-- Chunk `c` of group `g` lies inside the block. -/
theorem inbChunk (g c : ℕ) :
    ∀ a, (![g % 8, 0, 256 * (c % 16)] : Fin 3 → ℕ) a + S1x64x256.size a ≤ S8x64x4096.size a := by
  intro a
  have := Nat.mod_lt g (show 0 < 8 by decide)
  have := Nat.mod_lt c (show 0 < 16 by decide)
  fin_cases a <;> simp <;> omega

/-- Group `g`'s column lies inside the array of carried sums. -/
theorem inbCol (g : ℕ) :
    ∀ a, (![0, g % 8] : Fin 2 → ℕ) a + S64x1.size a ≤ S64x8.size a := by
  intro a
  have := Nat.mod_lt g (show 0 < 8 by decide)
  fin_cases a <;> simp <;> omega

/-- Chunk `c`'s columns lie inside a group's rows. -/
theorem slicesChunk (c : ℕ) : S64x4096.Slices ![0, 256 * (c % 16)] S64x256 := by
  refine ⟨rfl, fun a => ?_⟩
  have := Nat.mod_lt c (show 0 < 16 by decide)
  fin_cases a <;> simp <;> omega

/-! ## What one pair (chunk, group) computes -/

/-- Group `g`'s column of an array of carried sums. -/
def col (s : Vec F S64x8 .f32) (g : ℕ) : Vec F S64x1 .f32 :=
  View.ld s (Rect.unit (s := S64x8) ![0, g % 8] S64x1.size (inbCol g))

/-- The input columns of chunk `c` of group `g`. -/
def chunk (x : Vec F S8x64x4096 .f32) (g c : ℕ) : FVec F S64x256 .f32 :=
  extractStridedSlice S64x256 ![0, 256 * (c % 16)]
    (shapeCast S64x4096 (View.ld x (Rect.unit (s := S8x64x4096) ![g % 8, 0, 0] S1x64x4096.size (inbRows g)))
      shapeCasts_S1x64x4096_S64x4096) (slicesChunk c)

/-- How many time steps precede each column of chunk `c`: the column's own time step. -/
def stepsBefore (i : grid0.Coords) (c : ℕ) : FVec F S1x256 .f32 :=
  sitofp .f32 (addi (iota .tc S1x256 32 [1] iota_S1x256_d1_w32)
    (broadcast S1x256 (Scalar.addi (Scalar.muli (BitVec.ofNat 32 (i 1).val) 4096#32) (BitVec.ofNat 32 (256 * (c % 16))))))

/-- One over the number of time steps up to and with each column of chunk `c`. -/
def recip (i : grid0.Coords) (c : ℕ) : FVec F S1x256 .f32 :=
  divf (broadcast S1x256 (Scalar.ofBits .f32 0x3F800000#32))
    (addf (stepsBefore i c) (broadcast S1x256 (Scalar.ofBits .f32 0x3F800000#32)))

/-- The running sum of `z` that enters each column: the product with the matrix `u`, plus the carried sum. -/
def entering (u : FVec F S256x256 .bf16) (z : FVec F S64x256 .f32) (k : FVec F S64x1 .f32) : FVec F S64x256 .f32 :=
  addf (matmul dot_S64x256_S256x256_S64x256_1_0_0_1_n_n none (truncf .bf16 z bitsLt_bf16_f32) u
    (constant S64x256 .f32 0x00000000#32)) (broadcastTo S64x256 k broadcasts_S64x1_S64x256)

/-- The carried sum after a chunk `z`: the sum entering its last column plus that column. -/
def leaving (u : FVec F S256x256 .bf16) (z : FVec F S64x256 .f32) (k : FVec F S64x1 .f32) : FVec F S64x1 .f32 :=
  addf (extractStridedSlice S64x1 ![0, 255] (entering u z k) slices_S64x256_o0_255_S64x1)
    (extractStridedSlice S64x1 ![0, 255] z slices_S64x256_o0_255_S64x1)

/-- The carried sum of the inputs of group `g` before chunk `c`, from the sum `k` before the block. -/
def carry1 (x : Vec F S8x64x4096 .f32) (u : FVec F S256x256 .bf16) (k : FVec F S64x1 .f32) (g : ℕ) : ℕ → FVec F S64x1 .f32
  | 0 => k
  | c + 1 => leaving u (chunk x g c) (carry1 x u k g c)

/-- The deviations from the running mean of chunk `c` of group `g`. -/
def dev (i : grid0.Coords) (x : Vec F S8x64x4096 .f32) (u : FVec F S256x256 .bf16) (k : FVec F S64x1 .f32) (g c : ℕ) :
    FVec F S64x256 .f32 :=
  mulf (subf (mulf (chunk x g c) (broadcastTo S64x256 (stepsBefore i c) broadcasts_S1x256_S64x256))
      (entering u (chunk x g c) (carry1 x u k g c)))
    (broadcastTo S64x256 (recip i c) broadcasts_S1x256_S64x256)

/-- The squared deviations of chunk `c` of group `g`. -/
def dev2 (i : grid0.Coords) (x : Vec F S8x64x4096 .f32) (u : FVec F S256x256 .bf16) (k : FVec F S64x1 .f32) (g c : ℕ) :
    FVec F S64x256 .f32 :=
  mulf (dev i x u k g c) (dev i x u k g c)

/-- The carried sum of the squared deviations of group `g` before chunk `c`, from the sum `k2` before the block. -/
def carry2 (i : grid0.Coords) (x : Vec F S8x64x4096 .f32) (u : FVec F S256x256 .bf16) (k k2 : FVec F S64x1 .f32) (g : ℕ) :
    ℕ → FVec F S64x1 .f32
  | 0 => k2
  | c + 1 => leaving u (dev2 i x u k g c) (carry2 i x u k k2 g c)

/-- The normalised columns of chunk `c` of group `g`. -/
def normed (i : grid0.Coords) (x : Vec F S8x64x4096 .f32) (u : FVec F S256x256 .bf16) (k k2 : FVec F S64x1 .f32) (g c : ℕ) :
    FVec F S64x256 .f32 :=
  mulf (dev i x u k g c)
    (rsqrt (maximumf
      (mulf (addf (entering u (dev2 i x u k g c) (carry2 i x u k k2 g c)) (dev2 i x u k g c))
        (broadcastTo S64x256 (recip i c) broadcasts_S1x256_S64x256))
      (broadcast S64x256 (Scalar.ofBits .f32 0x3727C5AC#32))))

/-! ## The body's stores, last first -/

/-- The stores of the first `n` pairs into the output block, when group `g` starts from the carried sums `k g`
    and `k2 g`. Pair `n` is chunk `n / 8` of group `n % 8`. -/
def stores (i : grid0.Coords) (x : Vec F S8x64x4096 .f32) (u : FVec F S256x256 .bf16) (k k2 : ℕ → FVec F S64x1 .f32) :
    ℕ → List (View.Piece (Elt F) S8x64x4096 .f32)
  | 0 => []
  | n + 1 => ⟨Rect.unit (s := S8x64x4096) ![n % 8, 0, 256 * (n / 8 % 16)] S1x64x256.size (inbChunk n (n / 8)),
      shapeCast S1x64x256 (normed i x u (k (n % 8)) (k2 (n % 8)) (n % 8) (n / 8)) shapeCasts_S64x256_S1x64x256⟩
      :: stores i x u k k2 n

/-- The stores of the first `n` groups' carried sums `v g`, over the stores `L` made before. -/
def colStores (L : List (View.Piece (Elt F) S64x8 .f32)) (v : ℕ → FVec F S64x1 .f32) : ℕ → List (View.Piece (Elt F) S64x8 .f32)
  | 0 => L
  | n + 1 => ⟨Rect.unit (s := S64x8) ![0, n % 8] S64x1.size (inbCol n), shapeCast S64x1 (v (n % 8)) shapeCasts_S64x1_S64x1⟩
      :: colStores L v n

end Cert.RevIn

end
-- ==== Proof.Found.lean ====
/-
  What the body stores, in the two cases of its conditional: the generated run of the body finds the stores,
  and they are the ones `Step` names.

  The first block of a batch group clears both arrays of carried sums and reads the cleared columns back;
  the second block starts from the columns the first one left.
-/
module

public import proofs.«01_k».proof.Proof.Step

@[expose] public section

noncomputable section

namespace Cert.RevIn

open Idealize.ShloMosaic Idealize.ShloMosaic.TcCoe
open Cert.KernelIdeal Cert.KernelIdeal.Gen

variable {F : FTy → Type} [FloatOps F]

/-- Two zero offsets, written out, are the zero offsets. -/
theorem zeros2 : (![0, 0] : Fin 2 → ℕ) = fun _ => 0 := funext fun a => by fin_cases a <;> rfl

/-- The cleared array of carried sums. -/
def cleared : Vec F S64x8 .f32 :=
  shapeCast S64x8 (broadcast S64x8 (Scalar.ofBits .f32 0x00000000#32 : F .f32)) shapeCasts_S64x8_S64x8

/-- The triangular matrix as the body reads it. -/
def mat (u : Vec F S256x256 .bf16) : FVec F S256x256 .bf16 := shapeCast S256x256 u shapeCasts_S256x256_S256x256

/-- The clearing store. -/
def clearing : List (View.Piece (Elt F) S64x8 .f32) :=
  [⟨Rect.unit (s := S64x8) ![0, 0] S64x8.size inb_S64x8_S64x8_0_0, cleared⟩]

/-- A load after one store of a whole array reads the stored value. -/
theorem read_whole {S : Shape} {e : EltTy} (v : View sig .tc .vmem S e) {off : Fin S.rank → ℕ} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩),
    View.canon_unit_zero h]

section Found

variable (c : Dev nD) (i : grid0.Coords)
  (arg2 : Memref sig .tc .vmem S8x64x4096 .f32) (harg2 : arg2.IsWhole) (arg3 : Memref sig .tc .vmem S256x256 .bf16) (harg3 : arg3.IsWhole)
  (arg4 : Memref sig .tc .vmem S8x64x4096 .f32) (harg4 : arg4.IsWhole) (arg5 : Memref sig .tc .vmem S64x8 .f32) (harg5 : arg5.IsWhole)
  (arg6 : Memref sig .tc .vmem S64x8 .f32) (harg6 : arg6.IsWhole)
  (x : Vec F S8x64x4096 .f32) (u : Vec F S256x256 .bf16) (s1 s2 : Vec F S64x8 .f32)

set_option maxHeartbeats 8000000 in
set_option maxRecDepth 100000 in
/-- A group's second block: the stores into the output block, into the first array of carried sums and into
    the second. -/
theorem foundB (hc : ¬cond0_0 i) :
    (kernelRun0_B c i arg2 harg2 arg3 harg3 arg4 harg4 arg5 harg5 arg6 harg6 hc x u s1 s2).1
        = stores i x (mat u) (col s1) (col s2) 128
      ∧ (kernelRun0_B c i arg2 harg2 arg3 harg3 arg4 harg4 arg5 harg5 arg6 harg6 hc x u s1 s2).2.1
        = colStores [] (fun g => carry1 x (mat u) (col s1 g) g 16) 8
      ∧ (kernelRun0_B c i arg2 harg2 arg3 harg3 arg4 harg4 arg5 harg5 arg6 harg6 hc x u s1 s2).2.2.1
        = colStores [] (fun g => carry2 i x (mat u) (col s1 g) (col s2 g) g 16) 8 := by
  unfold kernelRun0_B
  dsimp only
  sl_unfold_words
  simp only [View.readAt_eq_ld, harg2.read_unread, harg3.read_unread, harg5.read_unread, harg6.read_unread,
    View.ld_unit_zero (S := S256x256) zeros2]
  refine ⟨?_, ?_, ?_⟩ <;> sl_kernel_rfl

set_option maxHeartbeats 8000000 in
set_option maxRecDepth 100000 in
/-- A group's first block: the same stores from cleared columns, the carried sums' after the clearing store. -/
theorem foundA (hc : cond0_0 i) :
    (kernelRun0_A c i arg2 harg2 arg3 harg3 arg4 harg4 arg5 harg5 arg6 harg6 hc x u).1
        = stores i x (mat u) (col cleared) (col cleared) 128
      ∧ (kernelRun0_A c i arg2 harg2 arg3 harg3 arg4 harg4 arg5 harg5 arg6 harg6 hc x u).2.1
        = colStores clearing (fun g => carry1 x (mat u) (col cleared g) g 16) 8
      ∧ (kernelRun0_A c i arg2 harg2 arg3 harg3 arg4 harg4 arg5 harg5 arg6 harg6 hc x u).2.2.1
        = colStores clearing (fun g => carry2 i x (mat u) (col cleared g) (col cleared g) g 16) 8 := by
  unfold kernelRun0_A
  dsimp only
  sl_unfold_words
  simp only [View.readAt_eq_ld, harg2.read_unread, harg3.read_unread, read_whole (S := S64x8) _ zeros2,
    View.ld_unit_zero (S := S256x256) zeros2]
  refine ⟨?_, ?_, ?_⟩ <;> sl_kernel_rfl

end Found

end Cert.RevIn

end
-- ==== Proof.Block.lean ====
/-
  What a block's arrays hold after the body, read at an index: the output block column by column, and the two
  arrays of carried sums.
-/
module

public import proofs.«01_k».proof.Proof.Found
public import Idealize.ShloMosaic.Lib.Pointwise

@[expose] public section

noncomputable section

namespace Cert.RevIn

open Idealize.ShloMosaic Idealize.ShloMosaic.TcCoe
open Cert.KernelIdeal Cert.KernelIdeal.Gen

variable {F : FTy → Type} [FloatOps F]

/-- The output block: at group `y 0`, channel `y 1` and column `y 2` the value of the pair's chunk. -/
def blockVal (i : grid0.Coords) (x : Vec F S8x64x4096 .f32) (u : FVec F S256x256 .bf16) (k k2 : ℕ → FVec F S64x1 .f32) :
    Vec F S8x64x4096 .f32 := fun y =>
  normed i x u (k (y 0).val) (k2 (y 0).val) (y 0).val ((y 2).val / 256)
    (ix2 (n0 := 64) (n1 := 256) (y 1) ⟨(y 2).val % 256, Nat.mod_lt _ (by decide)⟩)

/-- Every store of a block writes that block's values at the places it covers. -/
theorem stores_agree (i : grid0.Coords) (x : Vec F S8x64x4096 .f32) (u : FVec F S256x256 .bf16) (k k2 : ℕ → FVec F S64x1 .f32) :
    ∀ n, n ≤ 128 → ∀ p ∈ stores i x u k k2 n, ∀ z : p.1.shape.Idx, p.2 z = blockVal i x u k k2 (p.1.emb z)
  | 0, _, p, hp, _ => absurd hp List.not_mem_nil
  | n + 1, hn, p, hp, z => by
    rcases List.mem_cons.mp hp with rfl | hp
    · have h0 : (z 0).val < 1 := (z 0).isLt
      have h2 : (z 2).val < 256 := (z 2).isLt
      refine (show _ = normed i x u (k (n % 8)) (k2 (n % 8)) (n % 8) (n / 8) (fun a => z a.succ) from
        shapeCast_addUnit_apply (n := 2) ![64, 256] _ shapeCasts_S64x256_S1x64x256 z).trans ?_
      unfold blockVal
      have e0 : ((Rect.unit (s := S8x64x4096) ![n % 8, 0, 256 * (n / 8 % 16)] S1x64x256.size (inbChunk n (n / 8))).emb z 0).val = n % 8 := by
        show n % 8 + 1 * (z 0).val = n % 8; omega
      have e1 : ((Rect.unit (s := S8x64x4096) ![n % 8, 0, 256 * (n / 8 % 16)] S1x64x256.size (inbChunk n (n / 8))).emb z 1).val = (z 1).val := by
        show 0 + 1 * (z 1).val = (z 1).val; omega
      have e2 : ((Rect.unit (s := S8x64x4096) ![n % 8, 0, 256 * (n / 8 % 16)] S1x64x256.size (inbChunk n (n / 8))).emb z 2).val = 256 * (n / 8) + (z 2).val := by
        show 256 * (n / 8 % 16) + 1 * (z 2).val = 256 * (n / 8) + (z 2).val; omega
      have ec : ((Rect.unit (s := S8x64x4096) ![n % 8, 0, 256 * (n / 8 % 16)] S1x64x256.size (inbChunk n (n / 8))).emb z 2).val / 256 = n / 8 := by
        rw [e2]; omega
      simp only [e0, ec]
      congr 1
      funext a
      match a with
      | ⟨0, _⟩ => exact Fin.ext e1.symm
      | ⟨1, _⟩ => exact Fin.ext (by show (z 2).val = _ % 256; rw [e2]; omega)
    · exact stores_agree i x u k k2 n (by omega) p hp z

/-- The carried sums after the first `n` groups' stores: group `g`'s column is `v g`. -/
theorem colStores_apply (L : List (View.Piece (Elt F) S64x8 .f32)) (v : ℕ → FVec F S64x1 .f32) (r : Fin 64) (g : Fin 8) :
    ∀ n, n ≤ 8 → g.val < n → View.canon (colStores L v n) (ix2 r g) = v g.val (ix2 r 0)
  | 0, _, h => absurd h (Nat.not_lt_zero _)
  | n + 1, hn, h => by
    unfold colStores
    by_cases hg : g.val = n
    · have e : (ix2 r g : S64x8.Idx) = (Rect.unit (s := S64x8) ![0, n % 8] S64x1.size (inbCol n)).emb (ix2 r (0 : Fin 1)) := by
        funext a
        match a with
        | ⟨0, _⟩ => exact Fin.ext (by show r.val = 0 + 1 * r.val; omega)
        | ⟨1, _⟩ => exact Fin.ext (by show g.val = n % 8 + 1 * 0; omega)
      rw [e, View.canon_cons_emb, shapeCast_self, hg, Nat.mod_eq_of_lt (by omega : n < 8)]
    · rw [View.canon_cons_of_not_mem]
      · exact colStores_apply L v r g n (by omega) (by omega)
      · intro hm
        obtain ⟨z, hz⟩ := (Rect.unit (s := S64x8) ![0, n % 8] S64x1.size (inbCol n)).exists_idx_of_mem hm
        have h1 : n % 8 + 1 * (z 1).val = g.val := congrArg Fin.val (congrFun hz 1)
        have h2 : (z 1).val < 1 := (z 1).isLt
        omega

section Outs

variable (c : Dev nD) (i : grid0.Coords)
  (arg2 : Memref sig .tc .vmem S8x64x4096 .f32) (harg2 : arg2.IsWhole) (arg3 : Memref sig .tc .vmem S256x256 .bf16) (harg3 : arg3.IsWhole)
  (arg4 : Memref sig .tc .vmem S8x64x4096 .f32) (harg4 : arg4.IsWhole) (arg5 : Memref sig .tc .vmem S64x8 .f32) (harg5 : arg5.IsWhole)
  (arg6 : Memref sig .tc .vmem S64x8 .f32) (harg6 : arg6.IsWhole)
  (x : Vec F S8x64x4096 .f32) (u : Vec F S256x256 .bf16) (s1 s2 : Vec F S64x8 .f32)

/-- A group's first block: the output block. -/
theorem outA (hc : cond0_0 i) :
    out0_A_2 c i arg2 harg2 arg3 harg3 arg4 harg4 arg5 harg5 arg6 harg6 hc x u
      = blockVal i x (mat u) (col cleared) (col cleared) := by
  unfold out0_A_2
  have hcov := cover0_A_2 c i arg2 harg2 arg3 harg3 arg4 harg4 arg5 harg5 arg6 harg6 hc x u
  rw [View.read_writes_eq_canon _ _ _ hcov]
  rw [(foundA c i arg2 harg2 arg3 harg3 arg4 harg4 arg5 harg5 arg6 harg6 x u hc).1] at hcov ⊢
  exact funext fun y => View.canon_apply_of_pieces _ _ (stores_agree _ _ _ _ _ 128 le_rfl) y (hcov y)

/-- A group's second block: the output block. -/
theorem outB (hc : ¬cond0_0 i) :
    out0_B_2 c i arg2 harg2 arg3 harg3 arg4 harg4 arg5 harg5 arg6 harg6 hc x u s1 s2
      = blockVal i x (mat u) (col s1) (col s2) := by
  unfold out0_B_2
  have hcov := cover0_B_2 c i arg2 harg2 arg3 harg3 arg4 harg4 arg5 harg5 arg6 harg6 hc x u s1 s2
  rw [View.read_writes_eq_canon _ _ _ hcov]
  rw [(foundB c i arg2 harg2 arg3 harg3 arg4 harg4 arg5 harg5 arg6 harg6 x u s1 s2 hc).1] at hcov ⊢
  exact funext fun y => View.canon_apply_of_pieces _ _ (stores_agree _ _ _ _ _ 128 le_rfl) y (hcov y)

/-- A group's first block: the carried sums of the inputs. -/
theorem soutA1 (hc : cond0_0 i) (r : Fin 64) (g : Fin 8) :
    sout0_A_0 c i arg2 harg2 arg3 harg3 arg4 harg4 arg5 harg5 arg6 harg6 hc x u (ix2 r g)
      = carry1 x (mat u) (col cleared g.val) g.val 16 (ix2 r 0) := by
  unfold sout0_A_0
  have hcov := scover0_A_0 c i arg2 harg2 arg3 harg3 arg4 harg4 arg5 harg5 arg6 harg6 hc x u
  rw [View.read_writes_eq_canon _ _ _ hcov, (foundA c i arg2 harg2 arg3 harg3 arg4 harg4 arg5 harg5 arg6 harg6 x u hc).2.1]
  exact colStores_apply _ _ r g 8 le_rfl g.isLt

/-- A group's first block: the carried sums of the squared deviations. -/
theorem soutA2 (hc : cond0_0 i) (r : Fin 64) (g : Fin 8) :
    sout0_A_1 c i arg2 harg2 arg3 harg3 arg4 harg4 arg5 harg5 arg6 harg6 hc x u (ix2 r g)
      = carry2 i x (mat u) (col cleared g.val) (col cleared g.val) g.val 16 (ix2 r 0) := by
  unfold sout0_A_1
  have hcov := scover0_A_1 c i arg2 harg2 arg3 harg3 arg4 harg4 arg5 harg5 arg6 harg6 hc x u
  rw [View.read_writes_eq_canon _ _ _ hcov, (foundA c i arg2 harg2 arg3 harg3 arg4 harg4 arg5 harg5 arg6 harg6 x u hc).2.2]
  exact colStores_apply _ _ r g 8 le_rfl g.isLt

end Outs

end Cert.RevIn

end
-- ==== Proof.Series.lean ====
/-
  The equation between the two ways of normalising one series of extended reals.

  For a series `x 0, x 1, …` the kernel's value at time `n` goes through the sum of the earlier values:
  the deviation is `(x n * n - (x 0 + … + x (n-1))) * (1 / (n+1))`, and it is multiplied by the reciprocal
  square root of the floored mean of the squared deviations so far. The reference's deviation is
  `x n - (x 0 + … + x n) / (1+n)`, and it is divided by the square root of its floored mean square.

  `kernel_eq_reference` says that the two values are equal at every time, for every series: where a value is
  infinite at or before time `n`, both sides are zero.
-/
module

public import Idealize.ShloMosaic.PureOps.Ideal
public import Idealize.ShloMosaic.PureOps.Ideal.Laws

@[expose] public section

noncomputable section

namespace Cert.RevIn

open Idealize.ShloMosaic

/-- The sum of the values before time `n`. -/
def before (x : ℕ → EReal) (n : ℕ) : EReal := ∑ s ∈ Finset.range n, x s

/-- A natural number as an extended real. -/
def nat (n : ℕ) : EReal := ((n : ℝ) : EReal)

/-- The floor under the mean square: the number the word `0x3727C5AC` stands for, near `1e-5`. -/
def eps : EReal := Ideal.ofBits .f32 0x3727C5AC#32

/-- The kernel's deviation at time `n`. -/
def kdev (x : ℕ → EReal) (n : ℕ) : EReal := (x n * nat n - before x n) * Ideal.div 1 (nat n + 1)

/-- The kernel's value at time `n`. -/
def kout (x : ℕ → EReal) (n : ℕ) : EReal :=
  kdev x n * Ideal.rsqrt (max ((before (fun s => kdev x s * kdev x s) n + kdev x n * kdev x n) * Ideal.div 1 (nat n + 1)) eps)

/-- The reference's deviation at time `n`. -/
def rdev (x : ℕ → EReal) (n : ℕ) : EReal := x n - Ideal.div (before x (n + 1)) (1 + nat n)

/-- The reference's value at time `n`. -/
def rout (x : ℕ → EReal) (n : ℕ) : EReal :=
  Ideal.div (rdev x n) (Ideal.sqrt (max (Ideal.div (before (fun s => rdev x s * rdev x s) (n + 1)) (1 + nat n)) eps))

/-- One more step adds one more term. -/
theorem before_succ (x : ℕ → EReal) (n : ℕ) : before x (n + 1) = before x n + x n := Finset.sum_range_succ x n

/-- No step adds up to zero. -/
theorem before_zero (x : ℕ → EReal) : before x 0 = 0 := Finset.sum_range_zero x

/-! ## The floor -/

/-- The floor is a positive real. -/
theorem eps_pos : ∃ e : ℝ, 0 < e ∧ eps = (e : EReal) := by
  refine ⟨_, ?_, by unfold eps; simp [Ideal.ofBits, Ideal.ieee, -EReal.coe_mul]; rfl⟩
  norm_num

/-- The reciprocal root of infinity is zero. -/
theorem rsqrt_top' : Ideal.rsqrt ⊤ = 0 := rfl

/-- Anything over the root of infinity is zero. -/
theorem div_sqrt_top (d : EReal) : Ideal.div d (Ideal.sqrt ⊤) = 0 := by
  rw [show Ideal.sqrt ⊤ = ⊤ from rfl]
  unfold Ideal.div
  rw [if_neg EReal.top_ne_zero, EReal.inv_top, mul_zero]

/-- The reciprocal root of a positive real. -/
theorem rsqrt_pos {r : ℝ} (hr : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr hr.le), if_neg hr.ne']

/-- The root of a positive real. -/
theorem sqrt_pos' {r : ℝ} (hr : 0 < r) : Ideal.sqrt (r : EReal) = ((Real.sqrt r : ℝ) : EReal) := by
  show (if r < 0 then ⊥ else ((Real.sqrt r : ℝ) : EReal)) = _
  rw [if_neg (not_lt.mpr hr.le)]

/-- Over a floored value, multiplying by the reciprocal square root is dividing by the square root. -/
theorem mul_rsqrt (d v : EReal) : d * Ideal.rsqrt (max v eps) = Ideal.div d (Ideal.sqrt (max v eps)) := by
  obtain ⟨e, he, h⟩ := eps_pos
  have key : ∀ r : ℝ, 0 < r → d * Ideal.rsqrt (r : EReal) = Ideal.div d (Ideal.sqrt (r : EReal)) := by
    intro r hr
    have hs : Real.sqrt r ≠ 0 := (Real.sqrt_pos.mpr hr).ne'
    rw [rsqrt_pos hr, sqrt_pos' hr, Ideal.div_coe hs, one_div]
  rw [h]
  induction v using EReal.rec with
  | bot => rw [max_eq_right bot_le]; exact key e he
  | top =>
    rw [max_eq_left le_top, rsqrt_top', div_sqrt_top, mul_zero]
  | coe v =>
    rw [← EReal.coe_strictMono.monotone.map_max]
    exact key _ (lt_max_of_lt_right he)

/-! ## Infinite values -/

/-- `a` is infinite. -/
def Inf (a : EReal) : Prop := a = ⊤ ∨ a = ⊥

/-- What is not infinite is a real. -/
theorem finite_of_not_inf {a : EReal} (h : ¬Inf a) : ∃ r : ℝ, a = (r : EReal) := by
  induction a using EReal.rec with
  | bot => exact absurd (.inr rfl) h
  | top => exact absurd (.inl rfl) h
  | coe r => exact ⟨r, rfl⟩

/-- A sum with an infinite first term is infinite. -/
theorem inf_add_left {a : EReal} (b : EReal) (h : Inf a) : Inf (a + b) := by
  rcases h with rfl | rfl
  · induction b using EReal.rec with
    | bot => exact .inr rfl
    | top => exact .inl rfl
    | coe r => exact .inl rfl
  · exact .inr (EReal.bot_add b)

/-- A sum with an infinite second term is infinite. -/
theorem inf_add_right (a : EReal) {b : EReal} (h : Inf b) : Inf (a + b) := add_comm b a ▸ inf_add_left a h

/-- The opposite of an infinite number is infinite. -/
theorem inf_neg {a : EReal} (h : Inf a) : Inf (-a) := by
  rcases h with rfl | rfl
  · exact .inr rfl
  · exact .inl rfl

/-- A difference from an infinite number is infinite. -/
theorem inf_sub_left {a : EReal} (b : EReal) (h : Inf a) : Inf (a - b) := inf_add_left (-b) h

/-- A difference by an infinite number is infinite. -/
theorem inf_sub_right (a : EReal) {b : EReal} (h : Inf b) : Inf (a - b) := inf_add_right a (inf_neg h)

/-- An infinite number times a positive real is infinite. -/
theorem inf_mul_pos {a : EReal} {r : ℝ} (hr : 0 < r) (h : Inf a) : Inf (a * (r : EReal)) := by
  rcases h with rfl | rfl
  · exact .inl (EReal.top_mul_coe_of_pos hr)
  · exact .inr (EReal.bot_mul_coe_of_pos hr)

/-- The square of an infinite number is positive infinity. -/
theorem inf_sq {a : EReal} (h : Inf a) : a * a = ⊤ := by
  rcases h with rfl | rfl <;> rfl

/-- A sum with an infinite term is infinite. -/
theorem inf_before {x : ℕ → EReal} {n s : ℕ} (hs : s < n) (h : Inf (x s)) : Inf (before x n) := by
  induction n with
  | zero => exact absurd hs (Nat.not_lt_zero _)
  | succ n ih =>
    rw [before_succ]
    rcases Nat.lt_succ_iff_lt_or_eq.mp hs with hlt | rfl
    · exact inf_add_left _ (ih hlt)
    · exact inf_add_right _ h

/-- A square is not negative. -/
theorem sq_nonneg' (a : EReal) : 0 ≤ a * a := by
  induction a using EReal.rec with
  | bot => exact le_top
  | top => exact le_top
  | coe r => rw [← EReal.coe_mul]; exact EReal.coe_nonneg.mpr (mul_self_nonneg r)

/-- A sum of squares is not negative. -/
theorem before_sq_nonneg (d : ℕ → EReal) (n : ℕ) : 0 ≤ before (fun s => d s * d s) n :=
  Finset.sum_nonneg fun s _ => sq_nonneg' (d s)

/-- A nonnegative number plus infinity is infinity. -/
theorem nonneg_add_top {a : EReal} (h : 0 ≤ a) : a + ⊤ = ⊤ :=
  EReal.add_top_of_ne_bot (ne_of_gt (lt_of_lt_of_le EReal.bot_lt_zero h))

/-! ## Dividing by the number of values -/

/-- Dividing by the count is multiplying by its real reciprocal. -/
theorem div_count (a : EReal) (n : ℕ) : Ideal.div a (1 + nat n) = a * ((1 / (1 + (n : ℝ)) : ℝ) : EReal) := by
  have h : (1 + (n : ℝ)) ≠ 0 := by positivity
  have e : (1 + nat n : EReal) = ((1 + (n : ℝ) : ℝ) : EReal) := by
    unfold nat; rw [EReal.coe_add, EReal.coe_one]
  rw [e, Ideal.div_coe h]

/-- One over the count is its real reciprocal. -/
theorem recip_count (n : ℕ) : Ideal.div 1 (nat n + 1) = ((1 / (1 + (n : ℝ)) : ℝ) : EReal) := by
  rw [add_comm, div_count, one_mul]

/-- That reciprocal is positive. -/
theorem count_pos (n : ℕ) : 0 < 1 / (1 + (n : ℝ)) := by positivity

/-! ## The two cases -/

/-- While every value is finite the deviations are equal. -/
theorem dev_eq (x : ℕ → EReal) (n : ℕ) (h : ∀ s, s ≤ n → ¬Inf (x s)) : kdev x n = rdev x n := by
  have hb : ∀ m, m ≤ n + 1 → ∃ r : ℝ, before x m = (r : EReal) := by
    intro m
    induction m with
    | zero => exact fun _ => ⟨0, before_zero x⟩
    | succ m ih =>
      intro hm
      obtain ⟨r, hr⟩ := ih (by omega)
      obtain ⟨q, hq⟩ := finite_of_not_inf (h m (by omega))
      exact ⟨r + q, by rw [before_succ, hr, hq, EReal.coe_add]⟩
  obtain ⟨r, hr⟩ := hb n (by omega)
  obtain ⟨q, hq⟩ := finite_of_not_inf (h n le_rfl)
  unfold kdev rdev nat
  rw [← nat, recip_count, before_succ, hr, hq, div_count]
  have hn : (1 + (n : ℝ)) ≠ 0 := by positivity
  simp only [nat, ← EReal.coe_mul, ← EReal.coe_sub, ← EReal.coe_add]
  congr 1
  field_simp
  ring

/-- With an infinite value at or before time `n` the kernel's value is zero. -/
theorem kout_inf (x : ℕ → EReal) (n s : ℕ) (hs : s ≤ n) (h : Inf (x s)) : kout x n = 0 := by
  rcases Nat.eq_zero_or_pos n with rfl | hn
  · have hd : kdev x 0 = 0 := by
      unfold kdev nat
      rw [before_zero]
      simp
    unfold kout
    rw [hd, zero_mul]
  · have hn' : (0 : ℝ) < (n : ℝ) := by exact_mod_cast hn
    have hd : Inf (kdev x n) := by
      unfold kdev
      rw [recip_count]
      refine inf_mul_pos (count_pos n) ?_
      rcases Nat.lt_or_eq_of_le hs with hlt | rfl
      · exact inf_sub_right _ (inf_before hlt h)
      · exact inf_sub_left _ (inf_mul_pos hn' h)
    unfold kout
    rw [inf_sq hd, nonneg_add_top (before_sq_nonneg _ n), recip_count, EReal.top_mul_coe_of_pos (count_pos n),
      max_eq_left le_top, rsqrt_top', mul_zero]

/-- With an infinite value at or before time `n` the reference's value is zero. -/
theorem rout_inf (x : ℕ → EReal) (n s : ℕ) (hs : s ≤ n) (h : Inf (x s)) : rout x n = 0 := by
  have hd : Inf (rdev x n) := by
    unfold rdev
    rw [div_count]
    exact inf_sub_right _ (inf_mul_pos (count_pos n) (inf_before (Nat.lt_succ_of_le hs) h))
  unfold rout
  rw [before_succ, inf_sq hd, nonneg_add_top (before_sq_nonneg _ n), div_count, EReal.top_mul_coe_of_pos (count_pos n),
    max_eq_left le_top, div_sqrt_top]

/-- The kernel's value and the reference's are equal, at every time of every series. -/
theorem kernel_eq_reference (x : ℕ → EReal) (n : ℕ) : kout x n = rout x n := by
  by_cases h : ∃ s, s ≤ n ∧ Inf (x s)
  · obtain ⟨s, hs, hi⟩ := h
    rw [kout_inf x n s hs hi, rout_inf x n s hs hi]
  · have hd : ∀ s, s ≤ n → kdev x s = rdev x s := fun s hs =>
      dev_eq x s fun q hq hi => h ⟨q, hq.trans hs, hi⟩
    have hb : before (fun s => kdev x s * kdev x s) n = before (fun s => rdev x s * rdev x s) n :=
      Finset.sum_congr rfl fun s hs => by
        show kdev x s * kdev x s = rdev x s * rdev x s
        rw [hd s (Finset.mem_range.mp hs).le]
    unfold kout rout
    rw [mul_rsqrt, hb, hd n le_rfl, ← before_succ (fun s => rdev x s * rdev x s), recip_count, ← div_count]

end Cert.RevIn

end
-- ==== Proof.Columns.lean ====
/-
  A block over the extended reals: its columns are the kernel's values of a series.

  `X` is the series of one batch entry and one channel. Where a chunk's columns are `X` from time `b` on and
  the carried sum is the sum of `X` before `b`, the sums entering the columns are the sums of `X` before each
  column's time, and so on through the block.
-/
module

public import proofs.«01_k».proof.Proof.Block
public import proofs.«01_k».proof.Proof.Series

@[expose] public section

set_option maxRecDepth 16384

noncomputable section

namespace Cert.RevIn

open Idealize.ShloMosaic Idealize.ShloMosaic.TcCoe
open Cert.KernelIdeal Cert.KernelIdeal.Gen

/-- `u` is the strictly upper triangular matrix of ones. -/
def Triangular (u : FVec Ideal S256x256 .bf16) : Prop :=
  ∀ j l : Fin 256, u (ix2 j l) = if j.val < l.val then (1 : EReal) else 0

/-- The sum before a column of a chunk, at an index: the chunk's row times the matrix column, plus the carried sum. -/
theorem entering_apply (u : FVec Ideal S256x256 .bf16) (z : FVec Ideal S64x256 .f32) (k : FVec Ideal S64x1 .f32)
    (r : Fin 64) (l : Fin 256) :
    entering u z k (ix2 r l) = (∑ j : Fin 256, z (ix2 r j) * u (ix2 j l)) + k (ix2 r 0) := by
  pointwise [entering]

/-- The sum a chunk hands on, at an index: the sum before its last column plus that column. -/
theorem leaving_apply (u : FVec Ideal S256x256 .bf16) (z : FVec Ideal S64x256 .f32) (k : FVec Ideal S64x1 .f32) (r : Fin 64) :
    leaving u z k (ix2 r 0) = entering u z k (ix2 r 255) + z (ix2 r 255) := by
  pointwise [leaving]

/-- A chunk at an index is the input block at the chunk's place on the time axis. -/
theorem chunk_apply (x : Vec Ideal S8x64x4096 .f32) (g : Fin 8) (c : Fin 16) (r : Fin 64) (l : Fin 256) :
    chunk x g.val c.val (ix2 r l) = x (ix3 g r ⟨256 * c.val + l.val, by omega⟩) := by
  unfold chunk
  have hg := g.isLt
  have hc := c.isLt
  rw [extractStridedSlice_apply (s := S64x4096) (t := S64x256) _ _ _ (ix2 r l) (ix2 (n0 := 64) (n1 := 4096) r ⟨256 * c.val + l.val, by omega⟩)
    (fun a => match a with
      | ⟨0, _⟩ => by show r.val = 0 + r.val; omega
      | ⟨1, _⟩ => by show 256 * c.val + l.val = 256 * (c.val % 16) + l.val; omega)]
  refine (shapeCast_dropUnit_apply (n := 2) ![64, 4096] _ shapeCasts_S1x64x4096_S64x4096 _).trans ?_
  refine congrArg x (funext fun a => Fin.ext ?_)
  match a with
  | ⟨0, _⟩ => show g.val % 8 + 1 * 0 = g.val; omega
  | ⟨1, _⟩ => show 0 + 1 * r.val = r.val; omega
  | ⟨2, _⟩ => show 0 + 1 * (256 * c.val + l.val) = 256 * c.val + l.val; omega

/-- The count before a column is the column's own time step. -/
theorem stepsBefore_apply (i : grid0.Coords) (c : ℕ) (l : Fin 256) :
    stepsBefore (F := Ideal) i c (ix2 0 l) = nat (4096 * (i 1).val + 256 * (c % 16) + l.val) := by
  pointwise [stepsBefore]
  show (((BitVec.ofNat 32 l.val + (BitVec.ofNat 32 (i 1).val * 4096#32 + BitVec.ofNat 32 (256 * (c % 16)))).toInt : ℝ) : EReal) = _
  have h1 : (i 1).val < 2 := (i 1).isLt
  have hl := l.isLt
  have e : (BitVec.ofNat 32 l.val + (BitVec.ofNat 32 (i 1).val * 4096#32 + BitVec.ofNat 32 (256 * (c % 16))))
      = BitVec.ofNat 32 (4096 * (i 1).val + 256 * (c % 16) + l.val) := by
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat, Nat.mod_eq_of_lt (by omega)]
  unfold nat
  rw [Int.cast_natCast]

/-- The reciprocal at a column is one over the count with the column itself. -/
theorem recip_apply (i : grid0.Coords) (c : ℕ) (l : Fin 256) :
    recip (F := Ideal) i c (ix2 0 l) = Ideal.div 1 (stepsBefore (F := Ideal) i c (ix2 0 l) + 1) := by
  pointwise [recip]

/-- The deviation at an index. -/
theorem dev_apply (i : grid0.Coords) (x : Vec Ideal S8x64x4096 .f32) (u : FVec Ideal S256x256 .bf16) (k : FVec Ideal S64x1 .f32)
    (g c : ℕ) (r : Fin 64) (l : Fin 256) :
    dev i x u k g c (ix2 r l) = (chunk x g c (ix2 r l) * stepsBefore (F := Ideal) i c (ix2 0 l)
      - entering u (chunk x g c) (carry1 x u k g c) (ix2 r l)) * recip (F := Ideal) i c (ix2 0 l) := by
  pointwise [dev]

/-- The normalised value at an index. -/
theorem normed_apply (i : grid0.Coords) (x : Vec Ideal S8x64x4096 .f32) (u : FVec Ideal S256x256 .bf16) (k k2 : FVec Ideal S64x1 .f32)
    (g c : ℕ) (r : Fin 64) (l : Fin 256) :
    normed i x u k k2 g c (ix2 r l) = dev i x u k g c (ix2 r l) * Ideal.rsqrt (max
      ((entering u (dev2 i x u k g c) (carry2 i x u k k2 g c) (ix2 r l) + dev2 i x u k g c (ix2 r l))
        * recip (F := Ideal) i c (ix2 0 l)) eps) := by
  pointwise [normed]
  rfl

/-! ## A chunk whose columns are a series -/

section Chunk

variable {u : FVec Ideal S256x256 .bf16} (hu : Triangular u) {z : FVec Ideal S64x256 .f32} {k : FVec Ideal S64x1 .f32}
  {r : Fin 64} {Z : ℕ → EReal} {b : ℕ} (hz : ∀ l : Fin 256, z (ix2 r l) = Z (b + l.val)) (hk : k (ix2 r 0) = before Z b)
include hu hz hk

/-- The sum entering a column is the sum of the series before the column's time. -/
theorem entering_series (l : Fin 256) : entering u z k (ix2 r l) = before Z (b + l.val) := by
  have hs : (∑ j : Fin 256, z (ix2 r j) * u (ix2 j l)) = ∑ s ∈ Finset.range l.val, Z (b + s) := by
    have hl := l.isLt
    have e : ∀ j : Fin 256, z (ix2 r j) * u (ix2 j l) = if j.val < l.val then Z (b + j.val) else 0 := by
      intro j
      rw [hz j, hu j l]
      split
      · rw [mul_one]
      · rw [mul_zero]
    rw [Finset.sum_congr rfl fun j _ => e j,
      Finset.sum_range (n := 256) (fun j => if j < l.val then Z (b + j) else 0) |>.symm,
      ← Finset.sum_filter]
    refine Finset.sum_congr ?_ fun _ _ => rfl
    ext j
    simp only [Finset.mem_filter, Finset.mem_range]
    omega
  rw [entering_apply, hs, hk, add_comm]
  unfold before
  rw [Finset.sum_range_add]

/-- The sum leaving the chunk is the sum of the series before the next chunk. -/
theorem leaving_series : leaving u z k (ix2 r 0) = before Z (b + 256) := by
  rw [leaving_apply, entering_series hu hz hk, hz]
  exact (before_succ Z (b + 255)).symm

end Chunk

/-! ## A block whose rows are a series -/

section Series

variable {i : grid0.Coords} {x : Vec Ideal S8x64x4096 .f32} {u : FVec Ideal S256x256 .bf16} (hu : Triangular u)
  {k k2 : FVec Ideal S64x1 .f32} {g : Fin 8} {r : Fin 64} {X : ℕ → EReal}
  (hx : ∀ q : Fin 4096, x (ix3 g r q) = X (4096 * (i 1).val + q.val))
  (hk : k (ix2 r 0) = before X (4096 * (i 1).val))
  (hk2 : k2 (ix2 r 0) = before (fun s => kdev X s * kdev X s) (4096 * (i 1).val))

include hx in
/-- A chunk is a stretch of the series. -/
theorem chunk_series (c : Fin 16) (l : Fin 256) :
    chunk x g.val c.val (ix2 r l) = X (4096 * (i 1).val + 256 * c.val + l.val) := by
  rw [chunk_apply, hx, Nat.add_assoc]

include hu hx hk in
/-- The first carried sum before chunk `c` is the sum of the series up to there. -/
theorem carry1_series : ∀ c, c ≤ 16 → carry1 x u k g.val c (ix2 r 0) = before X (4096 * (i 1).val + 256 * c)
  | 0, _ => hk
  | c + 1, hc => by
    have h := leaving_series hu (chunk_series hx ⟨c, by omega⟩) (carry1_series c (by omega))
    rw [show 4096 * (i 1).val + 256 * (c + 1) = 4096 * (i 1).val + 256 * c + 256 by omega]
    exact h

include hu hx hk in
/-- The deviation follows the kernel's formula on the series. -/
theorem dev_series (c : Fin 16) (l : Fin 256) :
    dev i x u k g.val c.val (ix2 r l) = kdev X (4096 * (i 1).val + 256 * c.val + l.val) := by
  have hc := c.isLt
  rw [dev_apply, recip_apply, stepsBefore_apply, chunk_series hx,
    entering_series hu (chunk_series hx c) (carry1_series hu hx hk c.val hc.le), Nat.mod_eq_of_lt hc]
  rfl

include hu hx hk in
/-- The squared deviation follows the square of that formula. -/
theorem dev2_series (c : Fin 16) (l : Fin 256) :
    dev2 i x u k g.val c.val (ix2 r l)
      = (fun s => kdev X s * kdev X s) (4096 * (i 1).val + 256 * c.val + l.val) := by
  show dev i x u k g.val c.val (ix2 r l) * dev i x u k g.val c.val (ix2 r l) = _
  rw [dev_series hu hx hk]

include hu hx hk hk2 in
/-- The second carried sum before chunk `c` is the sum of the squared deviations up to there. -/
theorem carry2_series : ∀ c, c ≤ 16 → carry2 i x u k k2 g.val c (ix2 r 0)
      = before (fun s => kdev X s * kdev X s) (4096 * (i 1).val + 256 * c)
  | 0, _ => hk2
  | c + 1, hc => by
    have h := leaving_series hu (dev2_series hu hx hk ⟨c, by omega⟩) (carry2_series c (by omega))
    rw [show 4096 * (i 1).val + 256 * (c + 1) = 4096 * (i 1).val + 256 * c + 256 by omega]
    exact h

include hu hx hk hk2 in
/-- A normalised column is the kernel's value of the series at the column's time. -/
theorem normed_series (c : Fin 16) (l : Fin 256) :
    normed i x u k k2 g.val c.val (ix2 r l) = kout X (4096 * (i 1).val + 256 * c.val + l.val) := by
  have hc := c.isLt
  rw [normed_apply, recip_apply, stepsBefore_apply,
    entering_series hu (dev2_series hu hx hk c) (carry2_series hu hx hk hk2 c.val hc.le),
    dev2_series hu hx hk, dev_series hu hx hk, Nat.mod_eq_of_lt hc]
  rfl

end Series

end Cert.RevIn

end
-- ==== Proof.Arrays.lean ====
/-
  The kernel's output array, from the arrays the launch finds.

  Point `t` of the grid works on the eight batch entries from `8 * (t / 2)` on, over the 4096 time steps from
  `4096 * (t % 2)` on.
-/
module

public import proofs.«01_k».proof.Proof.Columns

@[expose] public section

set_option maxRecDepth 16384

noncomputable section

namespace Cert.RevIn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The first grid coordinate of point `t`: which group of eight batch entries. -/
theorem coord0 (t : Fin cfg0.N) : (grid0.coords t 0).val = t.val / 2 := by
  have ht : t.val < 16 := Nat.lt_of_lt_of_eq t.isLt N_0
  have e : (grid0.coords t 0).val = t.val / 2 % 8 := Pipeline.Grid.coords_val t 0 (by decide) rfl
  omega

/-- The second grid coordinate of point `t`: which half of the time axis. -/
theorem coord1 (t : Fin cfg0.N) : (grid0.coords t 1).val = t.val % 2 := by
  have e : (grid0.coords t 1).val = t.val / 1 % 2 := Pipeline.Grid.coords_val t 1 (by decide) rfl
  omega

/-- The input block at point `t`. -/
theorem input_apply (c : Dev nD) (t : Fin cfg0.N) (g : Fin 8) (r : Fin 64) (q : Fin 4096) :
    (iblk m c 0 t : Vec Ideal S8x64x4096 .f32) (ix3 g r q)
      = (V m c main_v0 : Vec Ideal S64x64x8192 .f32) (ix3 ⟨8 * (t.val / 2) + g.val, by have := Nat.lt_of_lt_of_eq t.isLt N_0; omega⟩ r
          ⟨4096 * (t.val % 2) + q.val, by omega⟩) := by
  have ht : t.val < 16 := Nat.lt_of_lt_of_eq t.isLt N_0
  have h0 := coord0 t
  have h1 := coord1 t
  show (V m c main_v0 : Vec Ideal S64x64x8192 .f32) ((win0_0.rect t).emb (ix3 g r q)) = _
  refine congrArg _ (funext fun a => Fin.ext ?_)
  rw [win0_0.rect_emb_val t _ a]
  match a with
  | ⟨0, _⟩ =>
    show (BitVec.ofNat 32 (grid0.coords t 0).val).toNat * 8 + g.val = 8 * (t.val / 2) + g.val
    rw [BitVec.toNat_ofNat]; omega
  | ⟨1, _⟩ => show 0 * 64 + r.val = r.val; omega
  | ⟨2, _⟩ =>
    show (BitVec.ofNat 32 (grid0.coords t 1).val).toNat * 4096 + q.val = 4096 * (t.val % 2) + q.val
    rw [BitVec.toNat_ofNat]; omega

/-- The matrix block is the whole matrix, at every point. -/
theorem matrix_apply (c : Dev nD) (t : Fin cfg0.N) (j l : Fin 256) :
    (iblk m c 1 t : Vec Ideal S256x256 .bf16) (ix2 j l) = (V m c main_v2 : Vec Ideal S256x256 .bf16) (ix2 j l) := by
  show (V m c main_v2 : Vec Ideal S256x256 .bf16) ((win0_1.rect t).emb (ix2 j l)) = _
  refine congrArg _ (funext fun a => Fin.ext ?_)
  rw [win0_1.rect_emb_val t _ a]
  match a with
  | ⟨0, _⟩ => show 0 * 256 + j.val = j.val; omega
  | ⟨1, _⟩ => show 0 * 256 + l.val = l.val; omega

/-- The array the input window reads is the argument with its last two axes exchanged. -/
theorem V_main_v0 (c : Dev nD) :
    V m c main_v0 = transpose S64x64x8192 [0, 2, 1] (m ((c : Thread nD τ).loc main_arg0)) transposes_S64x8192x64_S64x64x8192_0_2_1 := by
  simp only [V, V0, List.flatten_cons, List.flatten_nil, List.append_nil, List.cons_append, List.nil_append, StableHlo.TRef.binary, StableHlo.TRef.nullary, StableHlo.TRef.unary, StableHlo.TRef.ternary,
    StableHlo.TRef.toBuf, StableHlo.TRef.ofBuf, cast_eq]
  after_results

/-- The matrix the launch finds: the ones, cleared where the row index reaches the column index. -/
theorem V_main_v2 (c : Dev nD) :
    V m c main_v2 = select (cmpi .sge (addi (iotaInDim S256x256 32 0) (broadcastInDim S256x256 ![] bcast_S_S256x256 (constantI S_ 32 0#32))) (iotaInDim S256x256 32 1))
      (broadcastInDim S256x256 ![] bcast_S_S256x256 (constant (F := Ideal) S_ .bf16 0x0000#16))
      (broadcastInDim S256x256 ![] bcast_S_S256x256 (constant (F := Ideal) S_ .bf16 0x3F80#16)) := by
  simp only [V, V0, List.flatten_cons, List.flatten_nil, List.append_nil, List.cons_append, List.nil_append, StableHlo.TRef.binary, StableHlo.TRef.nullary, StableHlo.TRef.unary, StableHlo.TRef.ternary,
    StableHlo.TRef.toBuf, StableHlo.TRef.ofBuf, cast_eq]
  after_results
  simp only [StableHlo.TRef.toBuf, StableHlo.TRef.ofBuf, cast_eq]

/-- The matrix holds one above the diagonal and zero elsewhere. -/
theorem V_main_v2_apply (c : Dev nD) (j l : Fin 256) :
    (V m c main_v2 : Vec Ideal S256x256 .bf16) (ix2 j l) = if j.val < l.val then (1 : EReal) else 0 := by
  rw [V_main_v2]
  pointwise []
  have hj := j.isLt
  have hl := l.isLt
  have ej : (BitVec.ofNat 32 j.val + 0#32).toInt = (j.val : ℤ) := by
    rw [BitVec.add_zero, BitVec.toInt_eq_toNat_of_lt (by rw [BitVec.toNat_ofNat]; omega), BitVec.toNat_ofNat, Nat.mod_eq_of_lt (by omega)]
  have el : (BitVec.ofNat 32 l.val).toInt = (l.val : ℤ) := by
    rw [BitVec.toInt_eq_toNat_of_lt (by rw [BitVec.toNat_ofNat]; omega), BitVec.toNat_ofNat, Nat.mod_eq_of_lt (by omega)]
  simp only [Scalar.select, IntOp.cmpi, IntOp.addi, BitVec.sle, ej, el]
  by_cases h : j.val < l.val
  · rw [decide_eq_false (by omega), if_pos h]; exact if_neg (by decide)
  · rw [decide_eq_true (by omega), if_neg h]; exact if_pos (by decide)

/-- So does the matrix block the body multiplies by. -/
theorem triangular (c : Dev nD) (t : Fin cfg0.N) : Triangular (mat (iblk m c 1 t : Vec Ideal S256x256 .bf16)) := by
  intro j l
  rw [mat, shapeCast_self, matrix_apply, V_main_v2_apply]

/-- A scratch column is the column's elements. -/
theorem col_apply (s : Vec Ideal S64x8 .f32) (g : Fin 8) (r : Fin 64) : col s g.val (ix2 r 0) = s (ix2 r g) := by
  have hg := g.isLt
  refine congrArg s (funext fun a => Fin.ext ?_)
  match a with
  | ⟨0, _⟩ => show 0 + 1 * r.val = r.val; omega
  | ⟨1, _⟩ => show g.val % 8 + 1 * 0 = g.val; omega

/-- Cleared scratch holds zeros. -/
theorem cleared_apply (r : Fin 64) (g : Fin 8) : (cleared (F := Ideal)) (ix2 r g) = (0 : EReal) := by
  pointwise [cleared]

/-- The time series of a batch entry and a channel. -/
def rows (c : Dev nD) (b r : ℕ) : ℕ → EReal := fun s =>
  if h : b < 64 ∧ r < 64 ∧ s < 8192 then (V m c main_v0 : Vec Ideal S64x64x8192 .f32) (ix3 ⟨b, h.1⟩ ⟨r, h.2.1⟩ ⟨s, h.2.2⟩) else 0

/-- The input block at point `t` is a stretch of the series. -/
theorem input_rows (c : Dev nD) (t : Fin cfg0.N) (g : Fin 8) (r : Fin 64) (q : Fin 4096) :
    (iblk m c 0 t : Vec Ideal S8x64x4096 .f32) (ix3 g r q)
      = rows m c (8 * (t.val / 2) + g.val) r.val (4096 * (grid0.coords t 1).val + q.val) := by
  have ht : t.val < 16 := Nat.lt_of_lt_of_eq t.isLt N_0
  have h1 := coord1 t
  rw [input_apply, rows, dif_pos ⟨by omega, r.isLt, by omega⟩]
  exact congrArg _ (congrArg (ix3 _ _) (Fin.ext (by show _ = 4096 * (grid0.coords t 1).val + q.val; rw [h1])))

/-- What the first scratch buffer holds after the first half of the series. -/
theorem scratch1 (c : Dev nD) (t : Fin cfg0.N) (h0 : t.val % 2 = 0) (r : Fin 64) (g : Fin 8) :
    (outsAt0 m c t.val t.isLt).2.1 (ix2 r g) = before (rows m c (8 * (t.val / 2) + g.val) r.val) 4096 := by
  have h1 := coord1 t
  rw [outsAt0_A m c t h0]
  dsimp only
  refine (soutA1 (F := Ideal) ..).trans ?_
  rw [carry1_series (triangular m c t) (input_rows m c t g r) (X := rows m c (8 * (t.val / 2) + g.val) r.val) ?_ 16 (le_refl _), h1, h0]
  rw [h1, h0, before_zero, col_apply, cleared_apply]

/-- What the second scratch buffer holds after the first half of the series. -/
theorem scratch2 (c : Dev nD) (t : Fin cfg0.N) (h0 : t.val % 2 = 0) (r : Fin 64) (g : Fin 8) :
    (outsAt0 m c t.val t.isLt).2.2 (ix2 r g)
      = before (fun s => kdev (rows m c (8 * (t.val / 2) + g.val) r.val) s * kdev (rows m c (8 * (t.val / 2) + g.val) r.val) s) 4096 := by
  have h1 := coord1 t
  rw [outsAt0_A m c t h0]
  dsimp only
  refine (soutA2 (F := Ideal) ..).trans ?_
  rw [carry2_series (triangular m c t) (input_rows m c t g r) (X := rows m c (8 * (t.val / 2) + g.val) r.val) ?_ ?_ 16 (le_refl _), h1, h0]
  · rw [h1, h0, before_zero, col_apply, cleared_apply]
  · rw [h1, h0, before_zero, col_apply, cleared_apply]

/-- The output block of point `t`. -/
theorem output_apply (c : Dev nD) (t : Fin cfg0.N) (g : Fin 8) (r : Fin 64) (q : Fin 4096) :
    (outsAt0 m c t.val t.isLt).1 (ix3 g r q)
      = kout (rows m c (8 * (t.val / 2) + g.val) r.val) (4096 * (t.val % 2) + q.val) := by
  have h1 := coord1 t
  have hq := q.isLt
  have hpos : 4096 * (t.val % 2) + 256 * (q.val / 256) + q.val % 256 = 4096 * (t.val % 2) + q.val := by omega
  by_cases h0 : t.val % 2 = 0
  · rw [outsAt0_A m c t h0]
    dsimp only
    refine (congrFun (outA (F := Ideal) ..) _).trans ?_
    refine (normed_series (triangular m c t) (input_rows m c t g r) (X := rows m c (8 * (t.val / 2) + g.val) r.val) ?_ ?_
      ⟨q.val / 256, by omega⟩ ⟨q.val % 256, by omega⟩).trans ?_
    · rw [h1, h0, before_zero]; exact (col_apply _ g r).trans (cleared_apply r g)
    · rw [h1, h0, before_zero]; exact (col_apply _ g r).trans (cleared_apply r g)
    · rw [h1, hpos]
  · have ht : t.val < 16 := Nat.lt_of_lt_of_eq t.isLt N_0
    have hp : (t.val - 1) % 2 = 0 := by omega
    have hd : (t.val - 1) / 2 = t.val / 2 := by omega
    have ht1 : t.val % 2 = 1 := by omega
    have hs1 := scratch1 m c ⟨t.val - 1, by have := t.isLt; omega⟩ hp r g
    have hs2 := scratch2 m c ⟨t.val - 1, by have := t.isLt; omega⟩ hp r g
    rw [outsAt0_B m c t h0]
    dsimp only
    refine (congrFun (outB (F := Ideal) ..) _).trans ?_
    refine (normed_series (triangular m c t) (input_rows m c t g r) (X := rows m c (8 * (t.val / 2) + g.val) r.val) ?_ ?_
      ⟨q.val / 256, by omega⟩ ⟨q.val % 256, by omega⟩).trans ?_
    · rw [h1, ht1]; simp only [hd] at hs1; exact (col_apply _ g r).trans hs1
    · rw [h1, ht1]; simp only [hd] at hs2; exact (col_apply _ g r).trans hs2
    · rw [h1, hpos]

end Cert.RevIn

end
-- ==== Proof.Cumsum.lean ====
/-
  What the reference computes.

  Its two running sums are windows of 8192 steps that end at the step they are read at, padded with zeros in front;
  read at a batch entry and a channel they are the sums `before` of a series.
-/
module

public import proofs.«01_k».proof.Proof.Gen.ReferenceIdeal.Read
public import proofs.«01_k».proof.Proof.Series
public import Idealize.ShloMosaic.Lib.Pointwise

@[expose] public section

set_option maxRecDepth 16384

noncomputable section

namespace Cert.RevIn

open Idealize.ShloMosaic Idealize.ShloMosaic.TcCoe Idealize.SL.Sem
open Cert.ReferenceIdeal Cert.ReferenceIdeal.Gen Cert.ReferenceIdeal.Read

/-- The time series of a batch entry and a channel of the argument. -/
def series (a : Vec Ideal S64x8192x64 .f32) (b ch : Fin 64) : ℕ → EReal := fun s =>
  if h : s < 8192 then a (ix3 b ⟨s, h⟩ ch) else 0

/-- The word of one stands for one. -/
theorem one_word : Ideal.ofBits .f32 0x3F800000#32 = 1 := by
  simp [Ideal.ofBits, Ideal.ieee, -EReal.coe_mul]; norm_num

/-- The word of zero stands for zero. -/
theorem zero_word : Ideal.ofBits .f32 0x00000000#32 = 0 := by simp [Ideal.ofBits, Ideal.ieee]

/-- Adding up a list from the left is its start plus its sum. -/
theorem foldl_add {N : ℕ} (v : EReal) (f : Fin N → EReal) :
    (List.finRange N).foldl (fun r n => r + f n) v = v + ∑ n, f n := by
  have h : ∀ (L : List (Fin N)) (v : EReal), L.foldl (fun r n => r + f n) v = v + (L.map f).sum := by
    intro L
    induction L with
    | nil => intro v; simp
    | cons a L ih => intro v; rw [List.foldl_cons, ih, List.map_cons, List.sum_cons, add_assoc]
  rw [h, ← List.ofFn_eq_map, List.sum_ofFn]

/-- A sum over a window that ends at step `t` and hangs over the front by `8191 - t` zeros. -/
theorem window_sum (X : ℕ → EReal) (t : ℕ) (ht : t < 8192) :
    (∑ w ∈ Finset.range 8192, if 8191 ≤ t + w then X (t + w - 8191) else 0) = before X (t + 1) := by
  have e : (8192 : ℕ) = (8191 - t) + (t + 1) := by omega
  rw [e, Finset.sum_range_add, Finset.sum_eq_zero, zero_add, before]
  · refine Finset.sum_congr rfl fun s hs => ?_
    have := Finset.mem_range.mp hs
    rw [if_pos (by omega)]
    exact congrArg X (by omega)
  · intro s hs
    have := Finset.mem_range.mp hs
    exact if_neg (by omega)

/-- A window sum at an index: the start, and for every position of the window the element it falls on or the start. -/
theorem window_apply {s t u : Shape} (window strides lo hi : Fin s.rank → ℕ) (a : FVec Ideal s .f32) (z : u.Idx → EReal)
    (h : s.ReduceWindows window strides lo hi t) (hu : 0 < u.numel) (j : t.Idx) :
    (Host.reduceWindowAdd (F := Ideal) (φ := .f32) window strides lo hi a z h hu : FVec Ideal t .f32) j
      = z (Shape.Idx.first hu) + ∑ w : (⟨s.rank, window⟩ : Shape).Idx,
          if hin : ∀ b, lo b ≤ (j (b.cast h.1.symm)).val * strides b + (w b).val
              ∧ (j (b.cast h.1.symm)).val * strides b + (w b).val - lo b < s.size b
          then (a (fun b => ⟨(j (b.cast h.1.symm)).val * strides b + (w b).val - lo b, (hin b).2⟩) : EReal) else z (Shape.Idx.first hu) := by
  refine (foldl_add _ _).trans (congrArg _ ?_)
  refine (Finset.sum_congr rfl fun n _ => dite_congr rfl (fun _ => rfl) (fun _ => rfl)).trans (Equiv.sum_comp (⟨s.rank, window⟩ : Shape).rowMajor.symm fun w =>
    if hin : ∀ b, lo b ≤ (j (b.cast h.1.symm)).val * strides b + (w b).val
        ∧ (j (b.cast h.1.symm)).val * strides b + (w b).val - lo b < s.size b
    then (a (fun b => ⟨(j (b.cast h.1.symm)).val * strides b + (w b).val - lo b, (hin b).2⟩) : EReal) else z (Shape.Idx.first hu))

/-- The positions of the reference's window are the 8192 steps. -/
def steps : Fin 8192 ≃ (⟨3, ![1, 8192, 1]⟩ : Shape).Idx where
  toFun n := ix3 (n0 := 1) (n1 := 8192) (n2 := 1) 0 n 0
  invFun w := w 1
  left_inv _ := rfl
  right_inv w := funext fun a => match a with
    | ⟨0, _⟩ => Fin.ext (by have : (w 0).val < 1 := (w 0).isLt; show 0 = (w 0).val; omega)
    | ⟨1, _⟩ => rfl
    | ⟨2, _⟩ => Fin.ext (by have : (w 2).val < 1 := (w 2).isLt; show 0 = (w 2).val; omega)

/-- The running sum of an array, read at a batch entry, a time and a channel. -/
theorem running_sum (a : Vec Ideal S64x8192x64 .f32) (z : Vec Ideal S_ .f32) (hz : ∀ i, z i = (0 : EReal)) (b : Fin 64) (t : Fin 8192) (ch : Fin 64) :
    (Host.reduceWindowAdd (F := Ideal) (φ := .f32) (s := S64x8192x64) (t := S64x8192x64) (u := S_) ![1, 8192, 1] ![1, 1, 1] ![0, 8191, 0] ![0, 0, 0] a z
        reduceWindows_S64x8192x64_S64x8192x64_w1s1p0_0_w8192s1p8191_0_w1s1p0_0 h_S_ : Vec Ideal S64x8192x64 .f32) (ix3 b t ch)
      = before (series a b ch) (t.val + 1) := by
  rw [window_apply, hz, zero_add, ← window_sum _ _ t.isLt, Finset.sum_range]
  refine ((Equiv.sum_comp steps _).symm.trans (Finset.sum_congr rfl fun n _ => ?_))
  have hn := n.isLt
  have ht := t.isLt
  by_cases hw : 8191 ≤ t.val + n.val
  · rw [if_pos hw, dif_pos]
    · rw [series, dif_pos (by omega)]
      refine congrArg a (funext fun x => Fin.ext ?_)
      match x with
      | ⟨0, _⟩ => show b.val * 1 + 0 - 0 = b.val; omega
      | ⟨1, _⟩ => show t.val * 1 + n.val - 8191 = t.val + n.val - 8191; omega
      | ⟨2, _⟩ => show ch.val * 1 + 0 - 0 = ch.val; omega
    · intro x
      have hb := b.isLt
      have hch := ch.isLt
      match x with
      | ⟨0, _⟩ => show 0 ≤ b.val * 1 + 0 ∧ b.val * 1 + 0 - 0 < 64; omega
      | ⟨1, _⟩ => show 8191 ≤ t.val * 1 + n.val ∧ t.val * 1 + n.val - 8191 < 8192; omega
      | ⟨2, _⟩ => show 0 ≤ ch.val * 1 + 0 ∧ ch.val * 1 + 0 - 0 < 64; omega
  · rw [if_neg hw, dif_neg]
    intro hin
    have h1 : 8191 ≤ t.val * 1 + n.val := (hin 1).1
    omega

/-- The numbers of the steps, counted from one. -/
theorem number_apply (n : Fin 8192) : (val_main_v2 (F := Ideal) : Vec Ideal S8192 .f32) (ix1 n) = 1 + nat n.val := by
  have hn := n.isLt
  show Ideal.ofBits .f32 0x3F800000#32 + ((((BitVec.ofNat 32 n.val).toInt : ℝ) : EReal)) = _
  rw [BitVec.toInt_eq_toNat_of_lt (by rw [BitVec.toNat_ofNat]; omega), BitVec.toNat_ofNat, Nat.mod_eq_of_lt (by omega),
    Int.cast_natCast, one_word]
  rfl

/-- The divisor of the first running sum. -/
theorem count_apply (b : Fin 64) (t : Fin 8192) (ch : Fin 64) :
    (val_main_v6 (F := Ideal) : Vec Ideal S64x8192x64 .f32) (ix3 b t ch) = 1 + nat t.val := by
  rw [val_main_v6_apply, val_main_v5_apply, val_main_v3_apply]
  exact (congrArg _ (funext fun a => match a with | ⟨0, _⟩ => rfl)).trans (number_apply t)

/-- The divisor of the second running sum. -/
theorem count_apply' (b : Fin 64) (t : Fin 8192) (ch : Fin 64) :
    (val_main_v12 (F := Ideal) : Vec Ideal S64x8192x64 .f32) (ix3 b t ch) = 1 + nat t.val := by
  rw [val_main_v12_apply, val_main_v11_apply, val_main_v3_apply]
  exact (congrArg _ (funext fun a => match a with | ⟨0, _⟩ => rfl)).trans (number_apply t)

/-- The series at a time of the array is the array's element. -/
theorem series_apply (a : Vec Ideal S64x8192x64 .f32) (b : Fin 64) (t : Fin 8192) (ch : Fin 64) :
    series a b ch t.val = a (ix3 b t ch) := by
  rw [series, dif_pos t.isLt]

/-- The reference's deviation. -/
theorem deviation_apply (a : Vec Ideal S64x8192x64 .f32) (b : Fin 64) (t : Fin 8192) (ch : Fin 64) :
    (val_main_v8 (F := Ideal) a : Vec Ideal S64x8192x64 .f32) (ix3 b t ch) = rdev (series a b ch) t.val := by
  show (a (ix3 b t ch) : EReal) - Ideal.div (val_main_v4 (F := Ideal) a (ix3 b t ch)) (val_main_v6 (F := Ideal) (ix3 b t ch)) = _
  rw [count_apply, rdev, series_apply]
  refine congrArg (fun v => (a (ix3 b t ch) : EReal) - Ideal.div v (1 + nat t.val)) ?_
  exact running_sum a _ (fun i => zero_word) b t ch

/-- The squared deviations as a series: past the last time the array has no element, and both are read only up to it. -/
theorem squares_series (a : Vec Ideal S64x8192x64 .f32) (b ch : Fin 64) (t : ℕ) (ht : t < 8192) :
    before (series (val_main_v9 (F := Ideal) a) b ch) (t + 1)
      = before (fun s => rdev (series a b ch) s * rdev (series a b ch) s) (t + 1) := by
  refine Finset.sum_congr rfl fun s hs => ?_
  have h : s < 8192 := by have := Finset.mem_range.mp hs; omega
  rw [series, dif_pos h, val_main_v9_apply]
  show (_ : EReal) * _ = _
  rw [deviation_apply]

/-- The reference's result, read at a batch entry, a time and a channel. -/
theorem reference_apply (a : Vec Ideal S64x8192x64 .f32) (b : Fin 64) (t : Fin 8192) (ch : Fin 64) :
    (val_main_v18 (F := Ideal) a : Vec Ideal S64x8192x64 .f32) (ix3 b t ch) = rout (series a b ch) t.val := by
  show Ideal.div (val_main_v8 (F := Ideal) a (ix3 b t ch))
    (Ideal.sqrt (max (Ideal.div (val_main_v10 (F := Ideal) a (ix3 b t ch)) (val_main_v12 (F := Ideal) (ix3 b t ch))) eps)) = _
  rw [deviation_apply, count_apply', rout, ← squares_series a b ch t.val t.isLt]
  refine congrArg (fun v => Ideal.div (rdev (series a b ch) t.val) (Ideal.sqrt (max (Ideal.div v (1 + nat t.val)) eps))) ?_
  exact running_sum _ _ (fun i => zero_word) b t ch

end Cert.RevIn

end
-- ==== Proof.Result.lean ====
/-
  The kernel's result as a function of its argument, and the run that leaves it.
-/
module

public import proofs.«01_k».proof.Proof.Arrays
public import proofs.«01_k».proof.Proof.Cumsum

@[expose] public section

set_option maxRecDepth 16384

noncomputable section

namespace Cert.RevIn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The series the blocks are stretches of are the argument's. -/
theorem rows_series (c : Dev nD) (b ch : Fin 64) : rows m c b.val ch.val = series (m ((c : Thread nD τ).loc main_arg0)) b ch := by
  funext s
  unfold rows series
  by_cases h : s < 8192
  · rw [dif_pos ⟨b.isLt, ch.isLt, h⟩, dif_pos h, V_main_v0]
    refine transpose_apply _ _ _ _ _ fun a => ?_
    match a with
    | ⟨0, _⟩ => rfl
    | ⟨1, _⟩ => rfl
    | ⟨2, _⟩ => rfl
  · rw [dif_neg h, dif_neg fun k => h k.2.2]

/-- What the kernel's output array holds: batch, then channel, then time. -/
def normalised (c : Dev nD) : Vec Ideal S64x64x8192 .f32 := fun i =>
  kout (rows m c (i 0).val (i 1).val) (i 2).val

/-- Every write-back writes its block of that array. -/
theorem flushed_eq (c : Dev nD) (t : Fin cfg0.N) :
    (dats m 0 c).flushed 2 t = ((cfg0.win 2).blk t).view.read (Elt Ideal) (normalised m c) := by
  have ht : t.val < 16 := Nat.lt_of_lt_of_eq t.isLt N_0
  have h0 := coord0 t
  have h1 := coord1 t
  show (cfg0.win 2).cut (grid0.coords t) ((dats m 0 c).after 2 t) = _
  rw [after0_2]
  funext y
  obtain ⟨g, r, q, rfl⟩ : ∃ (g : Fin 8) (r : Fin 64) (q : Fin 4096), y = ix3 g r q := ⟨y 0, y 1, y 2, eq_ix3 y⟩
  refine (output_apply m c t g r q).trans ?_
  show _ = normalised m c ((win0_2.rect t).emb (ix3 g r q))
  unfold normalised
  have e0 : ((win0_2.rect t).emb (ix3 g r q) 0).val = 8 * (t.val / 2) + g.val := by
    rw [win0_2.rect_emb_val t _ 0]
    show (BitVec.ofNat 32 (grid0.coords t 0).val).toNat * 8 + g.val = _
    rw [BitVec.toNat_ofNat]; omega
  have e1 : ((win0_2.rect t).emb (ix3 g r q) 1).val = r.val := by
    rw [win0_2.rect_emb_val t _ 1]
    show 0 * 64 + r.val = _
    omega
  have e2 : ((win0_2.rect t).emb (ix3 g r q) 2).val = 4096 * (t.val % 2) + q.val := by
    rw [win0_2.rect_emb_val t _ 2]
    show (BitVec.ofNat 32 (grid0.coords t 1).val).toNat * 4096 + q.val = _
    rw [BitVec.toNat_ofNat]; omega
  exact (congr (congrArg kout (congr (congrArg (rows m c) e0) e1)) e2).symm

/-- The blocks cover the array, so it ends holding all of it. -/
theorem final (c : Dev nD) : (dats m 0 c).arrAt 2 cfg0.N = normalised m c :=
  (dats m 0 c).arrAt_eq_of_cover 2 (normalised m c) (fun t _ => flushed_eq m c t) fun i => by
    have hi0 : (i 0 : ℕ) < 64 := (i 0).isLt
    have hi1 : (i 1 : ℕ) < 64 := (i 1).isLt
    have hi2 : (i 2 : ℕ) < 8192 := (i 2).isLt
    have hp : 2 * ((i 0 : ℕ) / 8) + (i 2 : ℕ) / 4096 < cfg0.N := by rw [show cfg0.N = 16 from N_0]; omega
    obtain ⟨t, et⟩ : ∃ t : Fin cfg0.N, t.val = 2 * ((i 0 : ℕ) / 8) + (i 2 : ℕ) / 4096 := ⟨⟨_, hp⟩, rfl⟩
    have h0 := coord0 t
    have h1 := coord1 t
    refine ⟨t, flush0_2 t, ?_⟩
    show i ∈ ((View.whole main_v3).slice (win0_2.rect t)).set
    rw [View.set_slice_whole, Rect.mem_set_unit]
    intro a
    match a with
    | ⟨0, _⟩ =>
      show (BitVec.ofNat 32 (grid0.coords t 0).val).toNat * 8 ≤ (i 0 : ℕ) ∧ (i 0 : ℕ) < (BitVec.ofNat 32 (grid0.coords t 0).val).toNat * 8 + 8
      rw [BitVec.toNat_ofNat]; omega
    | ⟨1, _⟩ => show 0 * 64 ≤ (i 1 : ℕ) ∧ (i 1 : ℕ) < 0 * 64 + 64; omega
    | ⟨2, _⟩ =>
      show (BitVec.ofNat 32 (grid0.coords t 1).val).toNat * 4096 ≤ (i 2 : ℕ) ∧ (i 2 : ℕ) < (BitVec.ofNat 32 (grid0.coords t 1).val).toNat * 4096 + 4096
      rw [BitVec.toNat_ofNat]; omega

/-- The result: the output array with its last two axes exchanged back. -/
def result (c : Dev nD) : Vec Ideal S64x8192x64 .f32 :=
  transpose S64x8192x64 [0, 2, 1] (normalised m c) transposes_S64x64x8192_S64x8192x64_0_2_1

/-- What the operation after the launch leaves in the result buffer. -/
theorem after_main_v4 (c : Dev nD) :
    Pipeline.afterTail₀ cfgs (dats m) 0 (V0 m) [hostOps1] c main_v4 = result m c := by
  have e : Pipeline.withArrays (cfgs 0).spec c (V0 m c) (fun w => (dats m 0 c).arrAt w (cfgs 0).N) (Proc.devRef .tc main_v3) = normalised m c :=
    (Pipeline.withArrays_arr (cfgs 0).spec (by decide) c (V0 m c) (fun w => (dats m 0 c).arrAt w (cfgs 0).N) 2).trans (final m c)
  unfold Pipeline.afterTail₀ result
  rw [← e]
  simp only [List.flatten_cons, List.flatten_nil, List.append_nil]
  after_results

/-- The result is the reference's, element by element. -/
theorem result_eq (c : Dev nD) : result m c = Cert.ReferenceIdeal.Read.val_main_v18 (F := Ideal) (m ((c : Thread nD τ).loc main_arg0)) := by
  funext y
  obtain ⟨b, t, ch, rfl⟩ : ∃ (b : Fin 64) (t : Fin 8192) (ch : Fin 64), y = ix3 b t ch := ⟨y 0, y 1, y 2, eq_ix3 y⟩
  refine (transpose_apply _ _ _ (ix3 b t ch) (ix3 b ch t) fun a => ?_).trans ?_
  · match a with
    | ⟨0, _⟩ => rfl
    | ⟨1, _⟩ => rfl
    | ⟨2, _⟩ => rfl
  · rw [reference_apply, ← kernel_eq_reference, ← rows_series]
    rfl

/-- The kernel runs, ends with `result` and leaves its argument as it was. -/
theorem run (ρ : Dev nD → PrngReg) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0) :=
  (θ_run defs _ _).mono (fun _ h c => ⟨(h.1 c).2 main_v4 (Pipeline.mem_restRefs_of main_v4 (by decide) (by decide)) |>.trans (after_main_v4 m c), h.2 c⟩)
    (θ_run_and (run_main m ρ) (unchanged m ρ))

end Cert.RevIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference runs, leaves its argument as it was and ends with every counter at zero: it declares none. -/
theorem reference_frame : Cert.quiescent_ReferenceIdeal (hReferenceIdeal := Cert.ReferenceIdeal.Gen.facts) := by
  intro m ρ _
  refine (θ_run Cert.ReferenceIdeal.defs _ _).mono (fun r h => ⟨fun c => (h c).2, ?_⟩) (Cert.ReferenceIdeal.Value.run m ρ)
  exact sem_eq_zero_of_no_sems (by decide) r.2

/-- From memories that agree on the argument, the kernel and the reference run, and end with the same result. -/
theorem equal_results : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.RevIn.result m c, Cert.RevIn.run m ρ,
    (θ_run Cert.ReferenceIdeal.defs _ _).mono (fun r h c => ⟨(h c).1.trans ?_, (h c).2⟩) (Cert.ReferenceIdeal.Value.run m' ρ')⟩
  refine (Cert.ReferenceIdeal.Read.val_main_v18_eq _).trans ?_
  rw [hargs c]
  exact (Cert.RevIn.result_eq m c).symm

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
